-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_slots [hPre_slots : Cert.Pre_slots.Facts] (m : (ℓ : Loc Cert.KernelIdeal.nD Cert.KernelIdeal.τ Cert.KernelIdeal.sig) → Buf (Elt Ideal) ℓ) : Prop :=
  ∀ c : Dev Cert.KernelIdeal.nD,
    (Cert.Pre_slots.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_slots [hPre_slots : Cert.Pre_slots.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_slots.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_slots [hKernelIdeal : Cert.KernelIdeal.Facts] [hPre_slots : Cert.Pre_slots.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_slots m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_slots [hReferenceIdeal : Cert.ReferenceIdeal.Facts] [hPre_slots : Cert.Pre_slots.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_slots m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_slots [hKernelIdeal : Cert.KernelIdeal.Facts] [hReferenceIdeal : Cert.ReferenceIdeal.Facts] [hPre_slots : Cert.Pre_slots.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_slots m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_slots : Cert.Pre_slots.Facts),
    quiescent_Kernel (hKernel := hKernel)
    ∧ quiescent_KernelIdeal (hKernelIdeal := hKernelIdeal)
    ∧ quiescent_KernelIdeal_pre_slots (hKernelIdeal := hKernelIdeal) (hPre_slots := hPre_slots)
    ∧ quiescent_ReferenceIdeal (hReferenceIdeal := hReferenceIdeal)
    ∧ quiescent_ReferenceIdeal_pre_slots (hReferenceIdeal := hReferenceIdeal) (hPre_slots := hPre_slots)
    ∧ preserves_Kernel_KernelIdeal
    ∧ algebraic_KernelIdeal_ReferenceIdeal_pre_slots (hKernelIdeal := hKernelIdeal) (hReferenceIdeal := hReferenceIdeal) (hPre_slots := hPre_slots)
-- ==== Pre_slots.lean ====
abbrev S8192x2048 : Shape := ⟨2, ![8192, 2048]⟩
abbrev S4x2048 : Shape := ⟨2, ![4, 2048]⟩
abbrev S_ : Shape := ⟨0, ![]⟩

class Facts : Prop where
  bcast_S_S4x2048 : S_.BroadcastsInDim S4x2048 (![] : Fin 0 → Fin S4x2048.rank)
  reducesTo_S4x2048_S_d0_1 : S4x2048.ReducesTo [0, 1] S_
  h_S_ : 0 < S_.numel

variable [Facts]

def fn {F : FTy → Type} [FloatOps F] (main_arg0 : FVec F S8192x2048 .f32) (main_arg1 : IVec S4x2048 32) (main_arg2 : FVec F S4x2048 .f32) : IVec S_ 1 :=
  let main_c : IVec S_ 32 := constantI S_ 32 0#32
  let main_v0 : IVec S4x2048 32 := broadcastInDim S4x2048 ![] bcast_S_S4x2048 main_c
  let main_v1 : IVec S4x2048 1 := cmpi .sge main_arg1 main_v0
  let main_c_0 : IVec S_ 32 := constantI S_ 32 1024#32
  let main_v2 : IVec S4x2048 32 := broadcastInDim S4x2048 ![] bcast_S_S4x2048 main_c_0
  let main_v3 : IVec S4x2048 1 := cmpi .slt main_arg1 main_v2
  let main_v4 : IVec S4x2048 1 := andi main_v1 main_v3
  let main_c_1 : IVec S_ 1 := constantI S_ 1 1#1
  let main_v5 : IVec S_ 1 := (fun x v => Host.reduce IntOp.andi x v reducesTo_S4x2048_S_d0_1 h_S_) main_v4 main_c_1
  main_v5
-- ==== Kernel.lean ====
abbrev S8192x2048 : Shape := ⟨2, ![8192, 2048]⟩
abbrev S4x2048 : Shape := ⟨2, ![4, 2048]⟩
abbrev S2048x4 : Shape := ⟨2, ![2048, 4]⟩
abbrev S8192x4096 : Shape := ⟨2, ![8192, 4096]⟩
abbrev S512x2048 : Shape := ⟨2, ![512, 2048]⟩
abbrev S512x4096 : Shape := ⟨2, ![512, 4096]⟩
abbrev S2048x4096 : Shape := ⟨2, ![2048, 4096]⟩
abbrev S2048x1024 : Shape := ⟨2, ![2048, 1024]⟩
abbrev S2048x1 : Shape := ⟨2, ![2048, 1]⟩

abbrev nBuf : Space → Nat
  | .hbm => 6
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S4x2048, .i32⟩
  | .hbm, ⟨2, _⟩ => ⟨S4x2048, .f32⟩
  | .hbm, ⟨3, _⟩ => ⟨S2048x4, .i32⟩
  | .hbm, ⟨4, _⟩ => ⟨S2048x4, .f32⟩
  | .hbm, ⟨5, _⟩ => ⟨S8192x4096, .f32⟩
  | .local _ .vmem, ⟨0, _⟩ => ⟨S512x2048, .f32⟩
  | .local _ .vmem, ⟨1, _⟩ => ⟨S512x2048, .f32⟩
  | .local _ .vmem, ⟨2, _⟩ => ⟨S2048x4, .i32⟩
  | .local _ .vmem, ⟨3, _⟩ => ⟨S2048x4, .f32⟩
  | .local _ .vmem, ⟨4, _⟩ => ⟨S512x4096, .f32⟩
  | .local _ .vmem, ⟨5, _⟩ => ⟨S512x4096, .f32⟩
  | .local _ .vmem, ⟨6, _⟩ => ⟨S2048x4096, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x4 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S8192x2048 : Shape := ⟨2, ![8192, 2048]⟩
abbrev S4x2048 : Shape := ⟨2, ![4, 2048]⟩
abbrev S_ : Shape := ⟨0, ![]⟩
abbrev S8192x4096 : Shape := ⟨2, ![8192, 4096]⟩
abbrev S1x2048 : Shape := ⟨2, ![1, 2048]⟩
abbrev S2048 : Shape := ⟨1, ![2048]⟩
abbrev S2048x1 : Shape := ⟨2, ![2048, 1]⟩

abbrev nBuf : Space → Nat
  | .hbm => 84
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4x2048, .i32⟩
  | .hbm, ⟨2, _⟩ => ⟨S4x2048, .f32⟩
  | .hbm, ⟨3, _⟩ => ⟨S_, .f32⟩
  | .hbm, ⟨4, _⟩ => ⟨S8192x4096, .f32⟩
  | .hbm, ⟨5, _⟩ => ⟨S1x2048, .f32⟩
  | .hbm, ⟨6, _⟩ => ⟨S2048, .f32⟩
  | .hbm, ⟨7, _⟩ => ⟨S1x2048, .f32⟩
  | .hbm, ⟨8, _⟩ => ⟨S8192x2048, .f32⟩
  | .hbm, ⟨9, _⟩ => ⟨S8192x2048, .f32⟩
  | .hbm, ⟨10, _⟩ => ⟨S1x2048, .i32⟩
  | .hbm, ⟨11, _⟩ => ⟨S2048, .i32⟩
  | .hbm, ⟨12, _⟩ => ⟨S_, .i32⟩
  | .hbm, ⟨13, _⟩ => ⟨S2048, .i32⟩
  | .hbm, ⟨14, _⟩ => ⟨S2048, .i32⟩
  | .hbm, ⟨15, _⟩ => ⟨S_, .i32⟩
  | .hbm, ⟨16, _⟩ => ⟨S2048, .i32⟩
  | .hbm, ⟨17, _⟩ => ⟨S2048, .i1⟩
  | .hbm, ⟨18, _⟩ => ⟨S_, .i32⟩
  | .hbm, ⟨19, _⟩ => ⟨S2048, .i32⟩
  | .hbm, ⟨20, _⟩ => ⟨S2048, .i32⟩
  | .hbm, ⟨21, _⟩ => ⟨S2048, .i32⟩
  | .hbm, ⟨22, _⟩ => ⟨S2048x1, .i32⟩
  | .hbm, ⟨23, _⟩ => ⟨S8192x4096, .f32⟩
  | .hbm, ⟨24, _⟩ => ⟨S1x2048, .f32⟩
  | .hbm, ⟨25, _⟩ => ⟨S2048, .f32⟩
  | .hbm, ⟨26, _⟩ => ⟨S1x2048, .f32⟩
  | .hbm, ⟨27, _⟩ => ⟨S8192x2048, .f32⟩
  | .hbm, ⟨28, _⟩ => ⟨S8192x2048, .f32⟩
  | .hbm, ⟨29, _⟩ => ⟨S1x2048, .i32⟩
  | .hbm, ⟨30, _⟩ => ⟨S2048, .i32⟩
  | .hbm, ⟨31, _⟩ => ⟨S_, .i32⟩
  | .hbm, ⟨32, _⟩ => ⟨S2048, .i32⟩
  | .hbm, ⟨33, _⟩ => ⟨S2048, .i32⟩
  | .hbm, ⟨34, _⟩ => ⟨S_, .i32⟩
  | .hbm, ⟨35, _⟩ => ⟨S2048, .i32⟩
  | .hbm, ⟨36, _⟩ => ⟨S2048, .i1⟩
  | .hbm, ⟨37, _⟩ => ⟨S_, .i32⟩
  | .hbm, ⟨38, _⟩ => ⟨S2048, .i32⟩
  | .hbm, ⟨39, _⟩ => ⟨S2048, .i32⟩
  | .hbm, ⟨40, _⟩ => ⟨S2048, .i32⟩
  | .hbm, ⟨41, _⟩ => ⟨S2048x1, .i32⟩
  | .hbm, ⟨42, _⟩ => ⟨S8192x4096, .f32⟩
  | .hbm, ⟨43, _⟩ => ⟨S1x2048, .f32⟩
  | .hbm, ⟨44, _⟩ => ⟨S2048, .f32⟩
  | .hbm, ⟨45, _⟩ => ⟨S1x2048, .f32⟩
  | .hbm, ⟨46, _⟩ => ⟨S8192x2048, .f32⟩
  | .hbm, ⟨47, _⟩ => ⟨S8192x2048, .f32⟩
  | .hbm, ⟨48, _⟩ => ⟨S1x2048, .i32⟩
  | .hbm, ⟨49, _⟩ => ⟨S2048, .i32⟩
  | .hbm, ⟨50, _⟩ => ⟨S_, .i32⟩
  | .hbm, ⟨51, _⟩ => ⟨S2048, .i32⟩
  | .hbm, ⟨52, _⟩ => ⟨S2048, .i32⟩
  | .hbm, ⟨53, _⟩ => ⟨S_, .i32⟩
  | .hbm, ⟨54, _⟩ => ⟨S2048, .i32⟩
  | .hbm, ⟨55, _⟩ => ⟨S2048, .i1⟩
  | .hbm, ⟨56, _⟩ => ⟨S_, .i32⟩
  | .hbm, ⟨57, _⟩ => ⟨S2048, .i32⟩
  | .hbm, ⟨58, _⟩ => ⟨S2048, .i32⟩
  | .hbm, ⟨59, _⟩ => ⟨S2048, .i32⟩
  | .hbm, ⟨60, _⟩ => ⟨S2048x1, .i32⟩
  | .hbm, ⟨61, _⟩ => ⟨S8192x4096, .f32⟩
  | .hbm, ⟨62, _⟩ => ⟨S1x2048, .f32⟩
  | .hbm, ⟨63, _⟩ => ⟨S2048, .f32⟩
  | .hbm, ⟨64, _⟩ => ⟨S1x2048, .f32⟩
  | .hbm, ⟨65, _⟩ => ⟨S8192x2048, .f32⟩
  | .hbm, ⟨66, _⟩ => ⟨S8192x2048, .f32⟩
  | .hbm, ⟨67, _⟩ => ⟨S1x2048, .i32⟩
  | .hbm, ⟨68, _⟩ => ⟨S2048, .i32⟩
  | .hbm, ⟨69, _⟩ => ⟨S_, .i32⟩
  | .hbm, ⟨70, _⟩ => ⟨S2048, .i32⟩
  | .hbm, ⟨71, _⟩ => ⟨S2048, .i32⟩
  | .hbm, ⟨72, _⟩ => ⟨S_, .i32⟩
  | .hbm, ⟨73, _⟩ => ⟨S2048, .i32⟩
  | .hbm, ⟨74, _⟩ => ⟨S2048, .i1⟩
  | .hbm, ⟨75, _⟩ => ⟨S_, .i32⟩
  | .hbm, ⟨76, _⟩ => ⟨S2048, .i32⟩
  | .hbm, ⟨77, _⟩ => ⟨S2048, .i32⟩
  | .hbm, ⟨78, _⟩ => ⟨S2048, .i32⟩
  | .hbm, ⟨79, _⟩ => ⟨S2048x1, .i32⟩
  | .hbm, ⟨80, _⟩ => ⟨S8192x4096, .f32⟩
  | .hbm, ⟨81, _⟩ => ⟨S_, .f32⟩
  | .hbm, ⟨82, _⟩ => ⟨S8192x4096, .f32⟩
  | .hbm, ⟨83, _⟩ => ⟨S8192x4096, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_v8 : Ref sig .tc := ⟨.hbm, 13, rfl⟩
abbrev main_v9 : Ref sig .tc := ⟨.hbm, 14, rfl⟩
abbrev main_c_0 : Ref sig .tc := ⟨.hbm, 15, rfl⟩
abbrev main_v10 : Ref sig .tc := ⟨.hbm, 16, rfl⟩
abbrev main_v11 : Ref sig .tc := ⟨.hbm, 17, rfl⟩
abbrev main_c_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_c_2 : Ref sig .tc := ⟨.hbm, 31, rfl⟩
abbrev main_v24 : Ref sig .tc := ⟨.hbm, 32, rfl⟩
abbrev main_v25 : Ref sig .tc := ⟨.hbm, 33, rfl⟩
abbrev main_c_3 : Ref sig .tc := ⟨.hbm, 34, rfl⟩
abbrev main_v26 : Ref sig .tc := ⟨.hbm, 35, rfl⟩
abbrev main_v27 : Ref sig .tc := ⟨.hbm, 36, rfl⟩
abbrev main_c_4 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_c_5 : Ref sig .tc := ⟨.hbm, 50, rfl⟩
abbrev main_v40 : Ref sig .tc := ⟨.hbm, 51, rfl⟩
abbrev main_v41 : Ref sig .tc := ⟨.hbm, 52, rfl⟩
abbrev main_c_6 : Ref sig .tc := ⟨.hbm, 53, rfl⟩
abbrev main_v42 : Ref sig .tc := ⟨.hbm, 54, rfl⟩
abbrev main_v43 : Ref sig .tc := ⟨.hbm, 55, rfl⟩
abbrev main_c_7 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_c_8 : Ref sig .tc := ⟨.hbm, 69, rfl⟩
abbrev main_v56 : Ref sig .tc := ⟨.hbm, 70, rfl⟩
abbrev main_v57 : Ref sig .tc := ⟨.hbm, 71, rfl⟩
abbrev main_c_9 : Ref sig .tc := ⟨.hbm, 72, rfl⟩
abbrev main_v58 : Ref sig .tc := ⟨.hbm, 73, rfl⟩
abbrev main_v59 : Ref sig .tc := ⟨.hbm, 74, rfl⟩
abbrev main_c_10 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_cst_11 : Ref sig .tc := ⟨.hbm, 81, rfl⟩
abbrev main_v65 : Ref sig .tc := ⟨.hbm, 82, rfl⟩
abbrev main_v66 : Ref sig .tc := ⟨.hbm, 83, rfl⟩

abbrev nD : Nat := 1
abbrev τ : Topo := Topo.v7x

variable {F : FTy → Type} [FloatOps F]
-- ==== Proof.Sketch.lean ====
/- The mathematics both programs are read as.

   A sketch has 4096 columns in four blocks of 1024. In block `b` every input coordinate `j` is given one slot
   `h (b, j)` and one sign `s (b, j)`. Entry `(r, q)` of the result is the sum, over the coordinates `j` whose slot in
   the block of `q` is the place of `q` in that block, of `x (r, j) · s (b, j)`, halved.

   The kernel halves every sign before the sum, the reference halves the sum. On extended reals the two agree, because
   one half is a nonnegative real, and multiplication by such a number distributes over every sum, infinite or not. -/
module

public import Idealize.ShloMosaic.PureOps.Ideal
public import Idealize.ShloMosaic.Lib.IdealHost
public import Idealize.ShloMosaic.Lib.ValueIdx

@[expose] public section

noncomputable section

namespace Cert.Sketch

open Idealize.ShloMosaic Idealize.ShloMosaic.ValueIdx
open scoped BigOperators

/-- One half, as an extended real. -/
def half : EReal := ((1 / 2 : ℝ) : EReal)

/-- The f32 word the kernel multiplies the signs by is one half. -/
theorem ofBits_half : Ideal.ofBits .f32 0x3F000000#32 = half := by
  unfold half
  simp [Ideal.ofBits, Ideal.ieee, -EReal.coe_mul]; norm_num

/-- The f32 word the reference divides by is two. -/
theorem ofBits_two : Ideal.ofBits .f32 0x40000000#32 = ((2 : ℝ) : EReal) := by
  simp [Ideal.ofBits, Ideal.ieee, -EReal.coe_mul]; norm_num

/-- Dividing by two is multiplying by one half. -/
theorem div_two (y : EReal) : Ideal.div y ((2 : ℝ) : EReal) = y * half :=
  Ideal.div_coe two_ne_zero y

/-- One half is not negative. -/
theorem half_nonneg : 0 ≤ half := EReal.coe_nonneg.mpr (by norm_num)

/-- One half is not infinite. -/
theorem half_ne_top : half ≠ ⊤ := EReal.coe_ne_top _

/-- One half distributes over a sum of two extended reals. -/
theorem add_mul_half (y z : EReal) : (y + z) * half = y * half + z * half :=
  EReal.right_distrib_of_nonneg_of_ne_top half_nonneg
    half_ne_top y z

/-- One half distributes over a finite sum of extended reals. -/
theorem sum_mul_half {ι : Type} (t : Finset ι) (f : ι → EReal) : (∑ j ∈ t, f j) * half = ∑ j ∈ t, f j * half := by
  classical
  induction t using Finset.induction_on with
  | empty => simp
  | insert a t ha ih => rw [Finset.sum_insert ha, Finset.sum_insert ha, add_mul_half, ih]

/-- The entry of the projection for slot word `h`, sign `s` and place `l` in a block: half the sign when the slot is
    the place, zero otherwise. -/
def weight (h : BitVec 32) (s : EReal) (l : ℕ) : EReal := if BitVec.ofNat 32 l = h then s * half else 0

/-- The block a column lies in. -/
def blockOf (q : Fin 4096) : Fin 4 := ⟨q.val / 1024, by omega⟩

/-- Entry `(r, q)` of the sketch: the input's row `r` against the projection's column `q`. -/
def entry (x : (⟨2, ![8192, 2048]⟩ : Shape).Idx → EReal) (h : (⟨2, ![4, 2048]⟩ : Shape).Idx → BitVec 32)
    (s : (⟨2, ![4, 2048]⟩ : Shape).Idx → EReal) (r : Fin 8192) (q : Fin 4096) : EReal :=
  ∑ j : Fin 2048, x (ix2 r j) * weight (h (ix2 (blockOf q) j)) (s (ix2 (blockOf q) j)) (q.val % 1024)

/-- THE EQUATION. A sum of signed inputs over the coordinates that hash to one slot, divided by two, is the sum of the
    inputs against half the signs, with zero at the other coordinates. -/
theorem div_two_sum {ι : Type} (t : Finset ι) (p : ι → Prop) [DecidablePred p] (x s : ι → EReal) :
    Ideal.div (∑ j ∈ t, if p j then x j * s j else 0) ((2 : ℝ) : EReal)
      = ∑ j ∈ t, x j * (if p j then s j * half else 0) := by
  rw [div_two, sum_mul_half]
  refine Finset.sum_congr rfl fun j _ => ?_
  by_cases hp : p j
  · rw [if_pos hp, if_pos hp, mul_assoc]
  · rw [if_neg hp, if_neg hp, zero_mul, mul_zero]

end Cert.Sketch

end
-- ==== Proof.Projection.lean ====
/- What the kernel stores in its scratch at the first grid point: the projection matrix, one block of 1024 columns per
   store. Each stored block is one function of the block's slot column and sign column. -/
module

public import proofs.«01_k».proof.Proof.Sketch
public import proofs.«01_k».proof.Proof.Gen.KernelIdeal.Skeleton
public import Idealize.ShloMosaic.Lib.WordCmp
public import Idealize.ShloMosaic.Lib.Pipeline.Value
public import Idealize.ShloMosaic.Lib.MatmulPlain

@[expose] public section

noncomputable section

namespace Cert.KernelIdeal.Projection

open Cert.KernelIdeal Cert.KernelIdeal.Gen Cert.Sketch
open Idealize.ShloMosaic Idealize.ShloMosaic.ValueIdx
open scoped BigOperators

/-- One stored block: half the sign where the column's number is the slot, zero elsewhere. -/
def block (h : IVec S2048x1 32) (s : FVec Ideal S2048x1 .f32) : FVec Ideal S2048x1024 .bf16 :=
  truncf .bf16 (select (cmpi .eq (iota .tc S2048x1024 32 [1] iota_S2048x1024_d1_w32)
      (broadcastTo S2048x1024 h broadcasts_S2048x1_S2048x1024))
    (broadcastTo S2048x1024 (mulf s (broadcast S2048x1 (Scalar.ofBits .f32 0x3F000000#32))) broadcasts_S2048x1_S2048x1024)
    (broadcast S2048x1024 (Scalar.ofBits .f32 0x00000000#32))) bitsLt_bf16_f32

/-- A column spread over a block's columns reads, at `(j, l)`, its entry `j`. -/
theorem spread_apply {α : Type} (v : S2048x1.Idx → α) (j : Fin 2048) (l : Fin 1024) :
    broadcastTo S2048x1024 v broadcasts_S2048x1_S2048x1024 (ix2 j l) = v (ix2 j (0 : Fin 1)) := by
  refine broadcastTo_apply _ _ _ _ fun a => ?_
  match a with
  | ⟨0, _⟩ => rfl
  | ⟨1, _⟩ => rfl

/-- A STORED BLOCK AT AN ENTRY: the weight of the row's slot and sign at the column's place. -/
theorem block_apply (h : IVec S2048x1 32) (s : FVec Ideal S2048x1 .f32) (j : Fin 2048) (l : Fin 1024) :
    block h s (ix2 j l) = weight (h (ix2 j (0 : Fin 1))) (s (ix2 j (0 : Fin 1))) l.val := by
  show Scalar.select (IntOp.cmpi .eq (iota .tc S2048x1024 32 [1] iota_S2048x1024_d1_w32 (ix2 j l))
      (broadcastTo S2048x1024 h broadcasts_S2048x1_S2048x1024 (ix2 j l)))
    (broadcastTo S2048x1024 (mulf s (broadcast S2048x1 (Scalar.ofBits .f32 0x3F000000#32))) broadcasts_S2048x1_S2048x1024 (ix2 j l))
    (Ideal.ofBits .f32 0x00000000#32) = _
  rw [spread_apply, spread_apply, WordCmp.cmpi_eq_eq, WordCmp.select_decide]
  refine if_congr ?_ ?_ Ideal.ofBits_zero_f32
  · rw [WordCmp.iota_at]
    simp
  · show s (ix2 j (0 : Fin 1)) * Ideal.ofBits .f32 0x3F000000#32 = _
    rw [ofBits_half]

/-- The first store's block. -/
theorem pay4_eq (h : Vec Ideal S2048x1 .i32) (s : Vec Ideal S2048x1 .f32) : k0_pay4 (F := Ideal) h s = block h s := by
  unfold k0_pay4 block
  simp only [shapeCast_self]

/-- The second store's block. -/
theorem pay5_eq (h : Vec Ideal S2048x1 .i32) (s : Vec Ideal S2048x1 .f32) : k0_pay5 (F := Ideal) h s = block h s := by
  unfold k0_pay5 block
  simp only [shapeCast_self]

/-- The third store's block. -/
theorem pay1_eq (h : Vec Ideal S2048x1 .i32) (s : Vec Ideal S2048x1 .f32) :
    k0_pay1 (F := Ideal) (iota .tc S2048x1024 32 [1] iota_S2048x1024_d1_w32) (k0_pay6 (F := Ideal) h) (k0_pay7 s)
      (Scalar.ofBits .f32 0x3F000000#32) = block h s := by
  unfold k0_pay1 k0_pay6 k0_pay7 block
  simp only [shapeCast_self]

/-- The fourth store's block. -/
theorem pay2_eq (h : Vec Ideal S2048x1 .i32) (s : Vec Ideal S2048x1 .f32) :
    k0_pay2 (F := Ideal) (iota .tc S2048x1024 32 [1] iota_S2048x1024_d1_w32) h s = block h s := by
  unfold k0_pay2 block
  simp only [shapeCast_self]

/-- The projection matrix, from the slots and the signs, one column of each per block. -/
def matrix (h : S2048x4.Idx → BitVec 32) (s : S2048x4.Idx → EReal) : FVec Ideal S2048x4096 .bf16 :=
  fun i => weight (h (ix2 (i 0) (blockOf (i 1)))) (s (ix2 (i 0) (blockOf (i 1)))) ((i 1).val % 1024)

/-- The product the kernel stores, at an entry: row `r` of the inputs against column `q` of the matrix. -/
theorem product_apply (x : Vec Ideal S512x2048 .f32) (p : Vec Ideal S2048x4096 .bf16) (r : Fin 512) (q : Fin 4096) :
    k0_pay3 (F := Ideal) x p (ix2 r q) = ∑ j : Fin 2048, (x (ix2 r j) : EReal) * p (ix2 j q) := by
  refine (Ideal.matmul_plain_apply (M := 512) (K := 2048) (N := 4096) none (truncf .bf16 x bitsLt_bf16_f32 : FVec Ideal _ .bf16) p
    (constant S512x4096 .f32 0x00000000#32) r q).trans ?_
  show Ideal.ofBits .f32 0x00000000#32 + _ = _
  rw [Ideal.ofBits_zero_f32, zero_add]
  rfl

end Cert.KernelIdeal.Projection

end
-- ==== Proof.Points.lean ====
/- What one grid point leaves behind.

   The first point stores the projection matrix in the scratch, block by block, and then the product of its rows of the
   input with that matrix. Every later point finds the matrix in the scratch, leaves it there, and stores the product of
   its own rows with it. -/
module

public import proofs.«01_k».proof.Proof.Projection
public import proofs.«01_k».proof.Proof.Gen.KernelIdeal.Frame
public import Idealize.ShloMosaic.Lib.Pipeline.Value

@[expose] public section

noncomputable section

namespace Cert.KernelIdeal.Points

open Cert.KernelIdeal Cert.KernelIdeal.Gen Cert.KernelIdeal.Projection Cert.Sketch
open Idealize.ShloMosaic Idealize.ShloMosaic.ValueIdx

/-- The offsets of a whole buffer are zero. -/
theorem offsets_zero : (![0, 0] : Fin 2 → ℕ) = fun _ => 0 := funext fun a => by fin_cases a <;> rfl

/-- ONE STORE OF THE FIRST POINT IS A BLOCK OF THE MATRIX. Column `b` of the slots and of the signs gives the block the point
    stores from column `1024 * b` on, and that block's entries are the matrix's entries there. -/
theorem block_entry (b : ℕ) (hb : b < 4) (inb : ∀ a, (![0, b] : Fin 2 → ℕ) a + (![2048, 1] : Fin 2 → ℕ) a ≤ S2048x4.size a)
    (inb' : ∀ a, (![0, 1024 * b] : Fin 2 → ℕ) a + (![2048, 1024] : Fin 2 → ℕ) a ≤ S2048x4096.size a)
    (h : Vec Ideal S2048x4 .i32) (s : Vec Ideal S2048x4 .f32) (y : S2048x1024.Idx) :
    block (View.ld h (Rect.unit (s := S2048x4) ![0, b] ![2048, 1] inb)) (View.ld s (Rect.unit (s := S2048x4) ![0, b] ![2048, 1] inb)) y
      = matrix h s ((Rect.unit (s := S2048x4096) ![0, 1024 * b] ![2048, 1024] inb').emb y) := by
  obtain ⟨j, l, rfl⟩ : ∃ (j : Fin 2048) (l : Fin 1024), y = ix2 j l := ⟨y 0, y 1, eq_ix2 y⟩
  refine (block_apply _ _ j l).trans ?_
  have column : (Rect.unit (s := S2048x4) ![0, b] ![2048, 1] inb).emb (ix2 j (0 : Fin 1)) = ix2 j (⟨b, hb⟩ : Fin 4) := by
    funext a
    apply Fin.ext
    match a with
    | ⟨0, _⟩ => show 0 + 1 * j.val = j.val; omega
    | ⟨1, _⟩ => show b + 1 * 0 = b; omega
  have place : (Rect.unit (s := S2048x4096) ![0, 1024 * b] ![2048, 1024] inb').emb (ix2 j l)
      = ix2 j (⟨1024 * b + l.val, by have := l.isLt; omega⟩ : Fin 4096) := by
    funext a
    apply Fin.ext
    match a with
    | ⟨0, _⟩ => show 0 + 1 * j.val = j.val; omega
    | ⟨1, _⟩ => show 1024 * b + 1 * l.val = 1024 * b + l.val; omega
  have owner : blockOf (⟨1024 * b + l.val, by have := l.isLt; omega⟩ : Fin 4096) = (⟨b, hb⟩ : Fin 4) :=
    Fin.ext (by show (1024 * b + l.val) / 1024 = b; have := l.isLt; omega)
  have rest : (1024 * b + l.val) % 1024 = l.val := by have := l.isLt; omega
  rw [place]
  show weight (h ((Rect.unit (s := S2048x4) ![0, b] ![2048, 1] inb).emb (ix2 j (0 : Fin 1))))
    (s ((Rect.unit (s := S2048x4) ![0, b] ![2048, 1] inb).emb (ix2 j (0 : Fin 1)))) l.val = weight (h (ix2 j (blockOf _))) (s (ix2 j (blockOf _))) ((1024 * b + l.val) % 1024)
  rw [column, owner, rest]

section

variable (c : Dev nD) (i : grid0.Coords) (a1 : Memref sig .tc .vmem S512x2048 .f32) (h1 : a1.IsWhole)
  (a2 : Memref sig .tc .vmem S2048x4 .i32) (h2 : a2.IsWhole) (a3 : Memref sig .tc .vmem S2048x4 .f32) (h3 : a3.IsWhole)
  (a4 : Memref sig .tc .vmem S512x4096 .f32) (h4 : a4.IsWhole) (a5 : Memref sig .tc .vmem S2048x4096 .bf16) (h5 : a5.IsWhole)
  (x : Vec Ideal S512x2048 .f32) (h : Vec Ideal S2048x4 .i32) (s : Vec Ideal S2048x4 .f32)

/-- A later point stores the product of its rows with what the scratch holds. -/
theorem out_later (hc : ¬cond0_0 i) (p : Vec Ideal S2048x4096 .bf16) :
    out0_B_3 c i a1 h1 a2 h2 a3 h3 a4 h4 a5 h5 hc x h s p = k0_pay3 (F := Ideal) x p := by
  unfold out0_B_3
  rw [View.read_writes_eq_canon _ _ _ (cover0_B_3 c i a1 h1 a2 h2 a3 h3 a4 h4 a5 h5 hc x h s p)]
  unfold kernelRun0_B
  dsimp only
  rw [View.canon_unit_zero offsets_zero]
  simp only [View.readAt_eq_ld, h1.read_unread, h5.read_unread, View.ld_unit_zero (S := S512x2048) offsets_zero,
    View.ld_unit_zero (S := S2048x4096) offsets_zero]

/-- The four stores of the first point put the projection matrix together. -/
theorem stores_first (hc : cond0_0 i) :
    View.canon (kernelRun0_A c i a1 h1 a2 h2 a3 h3 a4 h4 a5 h5 hc x h s).2.1 = matrix h s := by
  funext y
  refine View.canon_apply_of_pieces _ _ ?_ _ (scover0_A_0 c i a1 h1 a2 h2 a3 h3 a4 h4 a5 h5 hc x h s y)
  unfold kernelRun0_A
  dsimp only
  sl_unfold_words
  simp only [View.readAt_eq_ld, h2.read_unread, h3.read_unread]
  intro p hp
  simp only [List.mem_cons, List.not_mem_nil, or_false] at hp
  rcases hp with rfl | rfl | rfl | rfl
  · exact fun z => (congrFun (pay2_eq _ _) z).trans (block_entry 3 (by decide) inb_S2048x4_S2048x1_0_3
      inb_S2048x4096_S2048x1024_0_3072 h s z)
  · exact fun z => (congrFun (pay1_eq _ _) z).trans (block_entry 2 (by decide) inb_S2048x4_S2048x1_0_2
      inb_S2048x4096_S2048x1024_0_2048 h s z)
  · exact fun z => (congrFun (pay5_eq _ _) z).trans (block_entry 1 (by decide) inb_S2048x4_S2048x1_0_1
      inb_S2048x4096_S2048x1024_0_1024 h s z)
  · exact fun z => (congrFun (pay4_eq _ _) z).trans (block_entry 0 (by decide) inb_S2048x4_S2048x1_0_0
      inb_S2048x4096_S2048x1024_0_0 h s z)

/-- The first point leaves the projection matrix in the scratch. -/
theorem scratch_first (hc : cond0_0 i) :
    sout0_A_0 c i a1 h1 a2 h2 a3 h3 a4 h4 a5 h5 hc x h s = matrix h s := by
  unfold sout0_A_0
  rw [View.read_writes_eq_canon _ _ _ (scover0_A_0 c i a1 h1 a2 h2 a3 h3 a4 h4 a5 h5 hc x h s)]
  exact stores_first c i a1 h1 a2 h2 a3 h3 a4 h4 a5 h5 x h s hc

/-- The first point stores the product of its rows with the matrix it has just put together. -/
theorem out_first (hc : cond0_0 i) :
    out0_A_3 c i a1 h1 a2 h2 a3 h3 a4 h4 a5 h5 hc x h s = k0_pay3 (F := Ideal) x (matrix h s) := by
  have back : a5.view.readCov (kernelRun0_A c i a1 h1 a2 h2 a3 h3 a4 h4 a5 h5 hc x h s).2.1
      (Rect.unit (s := S2048x4096) ![0, 0] S2048x4096.size inb_S2048x4096_S2048x4096_0_0).toLoadRect = matrix h s := by
    rw [View.readCov_eq_canon_ld _ _ _ (scover0_A_0 c i a1 h1 a2 h2 a3 h3 a4 h4 a5 h5 hc x h s),
      stores_first c i a1 h1 a2 h2 a3 h3 a4 h4 a5 h5 x h s hc, View.ld_unit_zero (S := S2048x4096) offsets_zero]
  unfold out0_A_3
  rw [View.read_writes_eq_canon _ _ _ (cover0_A_3 c i a1 h1 a2 h2 a3 h3 a4 h4 a5 h5 hc x h s)]
  unfold kernelRun0_A at back ⊢
  dsimp only at back ⊢
  rw [View.canon_unit_zero offsets_zero]
  refine congrArg₂ (k0_pay3 (F := Ideal)) ?_ back
  simp only [View.readAt_eq_ld, h1.read_unread, View.ld_unit_zero (S := S512x2048) offsets_zero]

end

end Cert.KernelIdeal.Points

end
-- ==== Proof.KernelValue.lean ====
/- What the result array of the kernel holds.

   The slots and the signs reach the kernel transposed, the rows of the input block by block. So each grid point stores
   its rows times the one projection matrix, and the array as a whole is the input times that matrix. -/
module

public import proofs.«01_k».proof.Proof.Points
public import proofs.«01_k».proof.Proof.Gen.KernelIdeal.Value
public import Idealize.ShloMosaic.Lib.Claim

@[expose] public section

noncomputable section

namespace Cert.KernelIdeal.KernelValue

open Cert.KernelIdeal Cert.KernelIdeal.Gen Cert.KernelIdeal.Value Cert.KernelIdeal.Projection Cert.KernelIdeal.Points Cert.Sketch
open Idealize.ShloMosaic Idealize.ShloMosaic.ValueIdx Idealize.ShloMosaic.TcCoe

variable (m : ((l : Loc nD τ sig) → Buf (Elt Ideal) l)) (c : Dev nD)

/-- A transposed array at an entry is the array at the entry with its coordinates exchanged. -/
theorem transposed_apply {α : Type} (v : S4x2048.Idx → α) (j : Fin 2048) (b : Fin 4) :
    transpose S2048x4 [1, 0] v transposes_S4x2048_S2048x4_1_0 (ix2 j b) = v (ix2 b j) := by
  refine transpose_apply _ _ _ _ _ fun a => ?_
  match a with
  | ⟨0, _⟩ => rfl
  | ⟨1, _⟩ => rfl

/-- The kernel finds the slots transposed. -/
theorem found_slots : V m c main_call0_v0
    = transpose S2048x4 [1, 0] (m ((c : Thread nD τ).loc main_arg1) : S4x2048.Idx → BitVec 32) transposes_S4x2048_S2048x4_1_0 := by
  entry_read
  rfl

/-- The kernel finds the signs transposed. -/
theorem found_signs : V m c main_call0_v1
    = transpose S2048x4 [1, 0] (m ((c : Thread nD τ).loc main_arg2) : S4x2048.Idx → EReal) transposes_S4x2048_S2048x4_1_0 := by
  entry_read
  rfl

/-- The slots and the signs are one block each, whatever the point, and the input's block number is the point's. -/
theorem block_numbers : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- The input's block at a point: 512 rows from row `512 * t` on. -/
theorem input_block (t : Fin cfg0.N) (a : Fin 512) (j : Fin 2048) (r : Fin 8192) (hr : r.val = 512 * t.val + a.val) :
    (iblk m c 0 t : Vec Ideal S512x2048 .f32) (ix2 a j) = (m ((c : Thread nD τ).loc main_arg0) : S8192x2048.Idx → EReal) (ix2 r j) := by
  obtain ⟨e0, e1, -⟩ := block_numbers t
  unfold iblk
  rw [View.read_apply]
  show V m c main_arg0 _ = _
  rw [V_main_arg0]
  congr 1
  funext k
  apply Fin.ext
  match k with
  | ⟨0, _⟩ => show win0_0.index t (0 : Fin 2) * 512 + 1 * a.val = r.val; omega
  | ⟨1, _⟩ => show win0_0.index t (1 : Fin 2) * 2048 + 1 * j.val = j.val; omega

/-- The slots' block at every point: slot `b` of coordinate `j` stands in row `j`, column `b`. -/
theorem slots_block (t : Fin cfg0.N) (j : Fin 2048) (b : Fin 4) :
    (iblk m c 1 t : Vec Ideal S2048x4 .i32) (ix2 j b) = (m ((c : Thread nD τ).loc main_arg1) : S4x2048.Idx → BitVec 32) (ix2 b j) := by
  obtain ⟨-, -, e0, e1, -⟩ := block_numbers t
  unfold iblk
  rw [View.read_apply]
  show V m c main_call0_v0 _ = _
  rw [found_slots]
  refine Eq.trans (congrArg _ ?_) (transposed_apply _ j b)
  funext k
  apply Fin.ext
  match k with
  | ⟨0, _⟩ => show win0_1.index t (0 : Fin 2) * 2048 + 1 * j.val = j.val; omega
  | ⟨1, _⟩ => show win0_1.index t (1 : Fin 2) * 4 + 1 * b.val = b.val; omega

/-- The signs' block at every point, likewise. -/
theorem signs_block (t : Fin cfg0.N) (j : Fin 2048) (b : Fin 4) :
    (iblk m c 2 t : Vec Ideal S2048x4 .f32) (ix2 j b) = (m ((c : Thread nD τ).loc main_arg2) : S4x2048.Idx → EReal) (ix2 b j) := by
  obtain ⟨-, -, -, -, e0, e1⟩ := block_numbers t
  unfold iblk
  rw [View.read_apply]
  show V m c main_call0_v1 _ = _
  rw [found_signs]
  refine Eq.trans (congrArg _ ?_) (transposed_apply _ j b)
  funext k
  apply Fin.ext
  match k with
  | ⟨0, _⟩ => show win0_2.index t (0 : Fin 2) * 2048 + 1 * j.val = j.val; omega
  | ⟨1, _⟩ => show win0_2.index t (1 : Fin 2) * 4 + 1 * b.val = b.val; omega

/-- The projection matrix of the call, from the slots and the signs as they were passed. -/
def projection : FVec Ideal S2048x4096 .bf16 := fun i =>
  weight ((m ((c : Thread nD τ).loc main_arg1) : S4x2048.Idx → BitVec 32) (ix2 (blockOf (i 1)) (i 0)))
    ((m ((c : Thread nD τ).loc main_arg2) : S4x2048.Idx → EReal) (ix2 (blockOf (i 1)) (i 0))) ((i 1).val % 1024)

/-- Every point's blocks of slots and signs give that one matrix. -/
theorem matrix_eq (t : Fin cfg0.N) : matrix (iblk m c 1 t) (iblk m c 2 t) = projection m c := by
  funext i
  show weight ((iblk m c 1 t : Vec Ideal S2048x4 .i32) (ix2 (i 0) (blockOf (i 1))))
    ((iblk m c 2 t : Vec Ideal S2048x4 .f32) (ix2 (i 0) (blockOf (i 1)))) ((i 1).val % 1024) = _
  rw [slots_block m c t (i 0) (blockOf (i 1)), signs_block m c t (i 0) (blockOf (i 1))]
  rfl

/-- What the first point leaves: in the scratch the matrix, in its rows of the result their product with it. -/
theorem left_first (t : Fin cfg0.N) (h0 : t.val % 16 = 0) :
    outsAt0 m c t.val t.isLt = (k0_pay3 (F := Ideal) (iblk m c 0 t) (projection m c), projection m c) := by
  rw [outsAt0_A m c t h0,
    out_first c (grid0.coords t) (ms0_0 t) (hs0_0 t) (ms0_1 t) (hs0_1 t) (ms0_2 t) (hs0_2 t) (ms0_3 t) (hs0_3 t) scM0_0
      (Memref.isWhole_whole _) (iblk m c 0 t) (iblk m c 1 t) (iblk m c 2 t) ((hcond0_0 t).mpr h0),
    scratch_first c (grid0.coords t) (ms0_0 t) (hs0_0 t) (ms0_1 t) (hs0_1 t) (ms0_2 t) (hs0_2 t) (ms0_3 t) (hs0_3 t) scM0_0
      (Memref.isWhole_whole _) (iblk m c 0 t) (iblk m c 1 t) (iblk m c 2 t) ((hcond0_0 t).mpr h0),
    matrix_eq m c t]

/-- What a later point leaves, over a scratch `p`: the scratch as it was, and in its rows of the result their product with it. -/
theorem left_later (t : Fin cfg0.N) (h0 : ¬t.val % 16 = 0) (p : Vec Ideal S2048x4096 .bf16)
    (hp : (outsAt0 m c (t.val - 1) (Nat.lt_of_le_of_lt (Nat.sub_le _ _) t.isLt)).2 = p) :
    outsAt0 m c t.val t.isLt = (k0_pay3 (F := Ideal) (iblk m c 0 t) p, p) := by
  rw [outsAt0_B m c t h0, hp,
    out_later c (grid0.coords t) (ms0_0 t) (hs0_0 t) (ms0_1 t) (hs0_1 t) (ms0_2 t) (hs0_2 t) (ms0_3 t) (hs0_3 t) scM0_0
      (Memref.isWhole_whole _) (iblk m c 0 t) (iblk m c 1 t) (iblk m c 2 t) (fun h => h0 ((hcond0_0 t).mp h)) p]
  rfl

/-- EVERY POINT leaves the matrix in the scratch, and in its rows of the result their product with the matrix. -/
theorem left_eq : ∀ (n : ℕ) (hn : n < cfg0.N),
    outsAt0 m c n hn = (k0_pay3 (F := Ideal) (iblk m c 0 ⟨n, hn⟩) (projection m c), projection m c)
  | 0, hn => left_first m c ⟨0, hn⟩ (Nat.zero_mod _)
  | n + 1, hn => by
    have hN : n + 1 < 16 := lt_of_lt_of_eq hn N_0
    exact left_later m c ⟨n + 1, hn⟩ (by show ¬(n + 1) % 16 = 0; omega) _ (congrArg Prod.snd (left_eq n (Nat.lt_of_succ_lt hn)))

/-- THE KERNEL'S RESULT AT AN ENTRY: the row of the input times the column of the matrix. -/
theorem result_apply (r : Fin 8192) (q : Fin 4096) :
    (G3 m c : S8192x4096.Idx → EReal) (ix2 r q)
      = entry (m ((c : Thread nD τ).loc main_arg0)) (m ((c : Thread nD τ).loc main_arg1)) (m ((c : Thread nD τ).loc main_arg2)) r q := by
  have hr := r.isLt
  have hq := q.isLt
  have point : pt3Of (ix2 r q) = r.val / 512 := by
    show 1 * (r.val / 512 - 0) + 1 * (q.val / 4096 - 0) = r.val / 512
    omega
  have inside : pt3Of (ix2 r q) < cfg0.N := by rw [point, show cfg0.N = 16 from N_0]; omega
  have place : loc3Of (ix2 r q) = ix2 (⟨r.val % 512, Nat.mod_lt _ (by decide)⟩ : Fin 512) q := by
    funext a
    apply Fin.ext
    match a with
    | ⟨0, _⟩ => rfl
    | ⟨1, _⟩ => show q.val % 4096 = q.val; omega
  unfold G3
  rw [dif_pos inside, ← outsAt0_sweep m c _ inside, left_eq m c _ inside, place]
  refine (product_apply _ _ _ q).trans ?_
  unfold entry
  refine Finset.sum_congr rfl fun j _ => ?_
  rw [input_block m c ⟨_, inside⟩ _ j r (by show r.val = 512 * pt3Of (ix2 r q) + r.val % 512; rw [point]; omega)]
  rfl

end Cert.KernelIdeal.KernelValue

end
-- ==== Proof.Scatter.lean ====
/- The reference adds each block with one scatter: column `j` of the updates is added into the result's column that the
   index word `j` names. This module reads such a scatter at one entry of its result. -/
module

public import proofs.«01_k».proof.Proof.Gen.ReferenceIdeal
public import Idealize.ShloMosaic.PureOps.Ideal
public import Idealize.ShloMosaic.Lib.ValueIdx
public import Idealize.ShloMosaic.Lib.Routing.OpsPair

@[expose] public section

noncomputable section

namespace Cert.ReferenceIdeal.Scatter

open Cert.ReferenceIdeal Cert.ReferenceIdeal.Gen Idealize.ShloMosaic Idealize.ShloMosaic.ValueIdx
open scoped BigOperators

/-- Update `(a, j)` lands on row `a`, in the column its index word names. -/
theorem lands (idx : IVec S2048x1 32) (a : Fin 8192) (j : Fin 2048) (r : Fin 8192) (q : Fin 4096) :
    scatter_S8192x4096_S2048x1_S8192x2048_0_1_1_1.resultIdx? (ix2 a j) idx = some (ix2 r q)
      ↔ a = r ∧ (idx (ix2 j 0)).toInt = q.val := by
  have row : scatter_S8192x4096_S2048x1_S8192x2048_0_1_1_1.start (ix2 a j) idx 0 = 0 := rfl
  have across : scatter_S8192x4096_S2048x1_S8192x2048_0_1_1_1.window (ix2 a j) 0 = a.val := rfl
  have col : scatter_S8192x4096_S2048x1_S8192x2048_0_1_1_1.start (ix2 a j) idx 1 = (idx (ix2 j 0)).toInt := by
    have at_j : scatter_S8192x4096_S2048x1_S8192x2048_0_1_1_1.siIdx (ix2 a j) ⟨0, Nat.one_pos⟩ = ix2 j 0 := by
      funext b
      match b with
      | ⟨0, _⟩ => rfl
      | ⟨1, _⟩ => rfl
    exact congrArg (fun i => (idx i).toInt) at_j
  have within : scatter_S8192x4096_S2048x1_S8192x2048_0_1_1_1.window (ix2 a j) 1 = 0 := rfl
  rw [Routing.resultIdx?_eq_some]
  constructor
  · intro h
    have h0 := h 0
    have h1 := h 1
    rw [row, across] at h0
    rw [col, within] at h1
    have e0 : ((ix2 r q : S8192x4096.Idx) 0).val = r.val := rfl
    have e1 : ((ix2 r q : S8192x4096.Idx) 1).val = q.val := rfl
    rw [e0] at h0
    rw [e1] at h1
    exact ⟨Fin.ext (by omega), by omega⟩
  · rintro ⟨rfl, h⟩ b
    match b with
    | ⟨0, _⟩ =>
      show _ + ((scatter_S8192x4096_S2048x1_S8192x2048_0_1_1_1.window (ix2 a j) 0 : ℕ) : Int) = (a.val : Int)
      rw [across]; exact zero_add _
    | ⟨1, _⟩ =>
      show scatter_S8192x4096_S2048x1_S8192x2048_0_1_1_1.start (ix2 a j) idx 1
        + ((scatter_S8192x4096_S2048x1_S8192x2048_0_1_1_1.window (ix2 a j) 1 : ℕ) : Int) = (q.val : Int)
      rw [col, within, h]; exact add_zero _

/-- ONE SCATTER AT AN ENTRY: what the operand held there, plus the updates of the same row whose index word is the
    entry's column. -/
theorem scatter_apply (x : FVec Ideal S8192x4096 .f32) (idx : IVec S2048x1 32) (u : FVec Ideal S8192x2048 .f32)
    (r : Fin 8192) (q : Fin 4096) :
    Host.scatterAdd scatter_S8192x4096_S2048x1_S8192x2048_0_1_1_1 x idx u (ix2 r q)
      = x (ix2 r q) + ∑ j : Fin 2048, if (idx (ix2 j 0)).toInt = q.val then u (ix2 r j) else 0 := by
  show Ideal.hostScatterAdd scatter_S8192x4096_S2048x1_S8192x2048_0_1_1_1 x idx u (ix2 r q) = _
  unfold Ideal.hostScatterAdd
  refine congrArg (x (ix2 r q) + ·) ?_
  rw [Finset.sum_filter, sum_idx2, Finset.sum_eq_single r]
  · exact Finset.sum_congr rfl fun j _ => if_congr ((lands idx r j r q).trans (and_iff_right rfl)) rfl rfl
  · exact fun a _ ha => Finset.sum_eq_zero fun j _ => if_neg fun h => ha ((lands idx a j r q).1 h).1
  · exact fun h => absurd (Finset.mem_univ r) h

end Cert.ReferenceIdeal.Scatter

end
-- ==== Proof.RefValue.lean ====
/- What the reference computes at one entry: the sketch's entry, when every slot lies inside its block.

   The reference adds the four blocks one after another. Block `b` puts coordinate `j` into column `1024 · b + h (b, j)`.
   With every slot below 1024 that column lies in block `b`, so at one entry only the block of its column adds anything. -/
module

public import proofs.«01_k».proof.Proof.Sketch
public import proofs.«01_k».proof.Proof.Scatter
public import proofs.«01_k».proof.Proof.Gen.ReferenceIdeal.Run
public import Idealize.ShloMosaic.Lib.WordCmp
public import Idealize.ShloMosaic.Lib.Pipeline.Value

@[expose] public section

noncomputable section

namespace Cert.ReferenceIdeal.RefValue

open Cert.ReferenceIdeal Cert.ReferenceIdeal.Gen Cert.ReferenceIdeal.Scatter Cert.Sketch
open Idealize.ShloMosaic Idealize.ShloMosaic.ValueIdx Idealize.ShloMosaic.TcCoe
open scoped BigOperators

/-- The row of a `[4, 2048]` array that starts at `off`, as a vector. -/
def rowAt {α : Type} (off : Fin 2 → ℕ) (hs : S4x2048.Slices off S1x2048) (a : S4x2048.Idx → α) : S2048.Idx → α :=
  shapeCast S2048 (extractStridedSlice S1x2048 off a hs) shapeCasts_S1x2048_S2048

/-- Row `b` as a vector holds the array's entries `(b, j)`. -/
theorem rowAt_apply {α : Type} (b : Fin 4) (hs : S4x2048.Slices ![b.val, 0] S1x2048) (a : S4x2048.Idx → α) (j : Fin 2048) :
    rowAt ![b.val, 0] hs a (ix1 j) = a (ix2 b j) := by
  unfold rowAt
  rw [shapeCast_apply _ _ (ix1 j) (ix2 (0 : Fin 1) j) (by
    rw [Shape.rowMajor_val_one, Shape.rowMajor_val_two]
    show 0 * 2048 + j.val = j.val
    omega)]
  refine extractStridedSlice_apply _ _ _ _ _ fun c => ?_
  match c with
  | ⟨0, _⟩ => rfl
  | ⟨1, _⟩ => exact (Nat.zero_add _).symm

/-- The columns a block starting at column `base` names: `base` plus each slot, with a negative index counted from the
    end, as an index vector of one word each. -/
def columns (base : BitVec 32) (h : S2048.Idx → BitVec 32) : IVec S2048x1 32 :=
  let at_base := addi (broadcastInDim S2048 ![] bcast_S_S2048 (constantI S_ 32 base)) h
  broadcastInDim S2048x1 ![0] bcast_S2048_S2048x1_0
    (select (cmpi .slt at_base (broadcastInDim S2048 ![] bcast_S_S2048 (constantI S_ 32 0#32)))
      (addi at_base (broadcastInDim S2048 ![] bcast_S_S2048 (constantI S_ 32 4096#32))) at_base)

/-- The signed inputs of a block: column `j` of the input times the block's sign of `j`. -/
def signed (x : FVec Ideal S8192x2048 .f32) (s : FVec Ideal S2048 .f32) : FVec Ideal S8192x2048 .f32 :=
  mulf x (broadcastInDim S8192x2048 ![0, 1] bcast_S1x2048_S8192x2048_0_1
    (broadcastInDim S1x2048 ![1] bcast_S2048_S1x2048_1 s))

/-- The column named for coordinate `j`, as one word: `base` plus the slot, when that sum is not negative. -/
theorem columns_apply (base : BitVec 32) (h : S2048.Idx → BitVec 32) (j : Fin 2048)
    (hj : (base + h (ix1 j)).toNat < 2 ^ 31) : columns base h (ix2 j (0 : Fin 1)) = base + h (ix1 j) := by
  unfold columns
  dsimp only
  refine (broadcastInDim_apply _ _ _ (ix2 j (0 : Fin 1)) (ix1 j) fun a => ?_).trans ?_
  · match a with
    | ⟨0, _⟩ => rfl
  · exact Routing.wrap_of_lt (w := 32) (base + h (ix1 j)) _ hj

/-- A signed input is the input times the sign of its column. -/
theorem signed_apply (x : FVec Ideal S8192x2048 .f32) (s : FVec Ideal S2048 .f32) (r : Fin 8192) (j : Fin 2048) :
    signed x s (ix2 r j) = x (ix2 r j) * s (ix1 j) := by
  refine congrArg (x (ix2 r j) * ·) ?_
  refine (broadcastInDim_apply _ _ _ (ix2 r j) (ix2 (0 : Fin 1) j) fun a => ?_).trans
    (broadcastInDim_apply _ _ _ (ix2 (0 : Fin 1) j) (ix1 j) fun a => ?_)
  · match a with
    | ⟨0, _⟩ => rfl
    | ⟨1, _⟩ => rfl
  · match a with
    | ⟨0, _⟩ => rfl

/-- A slot below 1024 keeps block `b`'s column inside the block: the column is `q` exactly when `q` lies in block `b`
    and the slot is `q`'s place there. -/
theorem column_eq_iff (b : Fin 4) (h : BitVec 32) (hh : h.toNat < 1024) (q : Fin 4096) :
    (BitVec.ofNat 32 (1024 * b.val) + h).toInt = q.val ↔ b = blockOf q ∧ BitVec.ofNat 32 (q.val % 1024) = h := by
  have hb := b.isLt
  have hq := q.isLt
  have e : (BitVec.ofNat 32 (1024 * b.val) + h).toNat = 1024 * b.val + h.toNat := by
    rw [BitVec.toNat_add, BitVec.toNat_ofNat]; omega
  rw [WordCmp.toInt_eq_toNat_of_lt_half (by rw [e]; omega), e]
  constructor
  · intro k
    refine ⟨Fin.ext ?_, BitVec.eq_of_toNat_eq ?_⟩
    · show b.val = q.val / 1024
      omega
    · rw [BitVec.toNat_ofNat]; omega
  · rintro ⟨rfl, k⟩
    have k' := congrArg BitVec.toNat k
    rw [BitVec.toNat_ofNat] at k'
    show ((1024 * (q.val / 1024) + h.toNat : ℕ) : ℤ) = q.val
    omega

/-- One block's scatter, as the reference prints it, over what the blocks before it left. -/
def addBlock (b : Fin 4) (hs : S4x2048.Slices ![b.val, 0] S1x2048) (x : FVec Ideal S8192x2048 .f32)
    (h : IVec S4x2048 32) (s : FVec Ideal S4x2048 .f32) (acc : FVec Ideal S8192x4096 .f32) : FVec Ideal S8192x4096 .f32 :=
  Host.scatterAdd scatter_S8192x4096_S2048x1_S8192x2048_0_1_1_1 acc
    (columns (BitVec.ofNat 32 (1024 * b.val)) (rowAt ![b.val, 0] hs h)) (signed x (rowAt ![b.val, 0] hs s))

/-- The sum of the signed inputs that hash to the place of column `q` in block `b`. -/
def slotSum (x : S8192x2048.Idx → EReal) (h : S4x2048.Idx → BitVec 32) (s : S4x2048.Idx → EReal)
    (b : Fin 4) (r : Fin 8192) (q : Fin 4096) : EReal :=
  ∑ j : Fin 2048, if BitVec.ofNat 32 (q.val % 1024) = h (ix2 b j) then x (ix2 r j) * s (ix2 b j) else 0

/-- WHAT ONE BLOCK ADDS: its slot sum in its own columns, nothing elsewhere. -/
theorem addBlock_apply (b : Fin 4) (hs : S4x2048.Slices ![b.val, 0] S1x2048) (x : FVec Ideal S8192x2048 .f32)
    (h : IVec S4x2048 32) (s : FVec Ideal S4x2048 .f32) (acc : FVec Ideal S8192x4096 .f32)
    (hh : ∀ i, (h i).toNat < 1024) (r : Fin 8192) (q : Fin 4096) :
    addBlock b hs x h s acc (ix2 r q) = acc (ix2 r q) + if b = blockOf q then slotSum x h s b r q else 0 := by
  unfold addBlock
  rw [scatter_apply]
  refine congrArg (acc (ix2 r q) + ·) ?_
  have term : ∀ j : Fin 2048,
      (if (columns (BitVec.ofNat 32 (1024 * b.val)) (rowAt ![b.val, 0] hs h) (ix2 j (0 : Fin 1))).toInt = q.val
        then signed x (rowAt ![b.val, 0] hs s) (ix2 r j) else 0)
      = if b = blockOf q ∧ BitVec.ofNat 32 (q.val % 1024) = h (ix2 b j) then x (ix2 r j) * s (ix2 b j) else 0 := fun j => by
    have hj := hh (ix2 b j)
    have hb := b.isLt
    rw [columns_apply _ _ _ (by rw [rowAt_apply, BitVec.toNat_add, BitVec.toNat_ofNat]; omega), rowAt_apply,
      signed_apply, rowAt_apply]
    exact if_congr (column_eq_iff b _ hj q) rfl rfl
  rw [Finset.sum_congr rfl fun j _ => term j]
  by_cases hb : b = blockOf q
  · rw [if_pos hb]
    exact Finset.sum_congr rfl fun j _ => if_congr (and_iff_right hb) rfl rfl
  · rw [if_neg hb]
    exact Finset.sum_eq_zero fun j _ => if_neg fun k => hb k.1

/-- The four blocks together leave, at an entry, the slot sum of the entry's own block. -/
theorem four_blocks (f : Fin 4 → EReal) (b : Fin 4) :
    (((0 + if 0 = b then f 0 else 0) + if 1 = b then f 1 else 0) + if 2 = b then f 2 else 0) + (if 3 = b then f 3 else 0)
      = f b := by
  have e : ∑ i : Fin 4, (if i = b then f i else 0) = f b := by
    rw [Finset.sum_ite_eq' Finset.univ b f, if_pos (Finset.mem_univ b)]
  rw [← e, Fin.sum_univ_four, zero_add]

/-- The reference's result is its four blocks, added in order over zero, divided by two. -/
theorem result_eq (m : (ℓ : Loc nD τ sig) → Buf (Elt Ideal) ℓ) (c : Dev nD) :
    (Value.res_out0 m c : FVec Ideal S8192x4096 .f32)
      = Host.divf
          (addBlock 3 slices_S4x2048_S1x2048_3_0 (m ((c : Thread nD τ).loc main_arg0)) (m ((c : Thread nD τ).loc main_arg1)) (m ((c : Thread nD τ).loc main_arg2))
          (addBlock 2 slices_S4x2048_S1x2048_2_0 (m ((c : Thread nD τ).loc main_arg0)) (m ((c : Thread nD τ).loc main_arg1)) (m ((c : Thread nD τ).loc main_arg2))
          (addBlock 1 slices_S4x2048_S1x2048_1_0 (m ((c : Thread nD τ).loc main_arg0)) (m ((c : Thread nD τ).loc main_arg1)) (m ((c : Thread nD τ).loc main_arg2))
          (addBlock 0 slices_S4x2048_S1x2048_0_0 (m ((c : Thread nD τ).loc main_arg0)) (m ((c : Thread nD τ).loc main_arg1)) (m ((c : Thread nD τ).loc main_arg2))
            (broadcastInDim S8192x4096 ![] bcast_S_S8192x4096 (constant S_ .f32 0x00000000#32))))))
          (broadcastInDim S8192x4096 ![] bcast_S_S8192x4096 (constant S_ .f32 0x40000000#32)) := rfl

/-- THE REFERENCE AT AN ENTRY: with every slot below 1024, the sketch's entry. -/
theorem result_apply (m : (ℓ : Loc nD τ sig) → Buf (Elt Ideal) ℓ) (c : Dev nD)
    (hh : ∀ i : S4x2048.Idx, BitVec.toNat (m ((c : Thread nD τ).loc main_arg1) i) < 1024) (r : Fin 8192) (q : Fin 4096) :
    (Value.res_out0 m c : FVec Ideal S8192x4096 .f32) (ix2 r q)
      = entry (m ((c : Thread nD τ).loc main_arg0)) (m ((c : Thread nD τ).loc main_arg1)) (m ((c : Thread nD τ).loc main_arg2)) r q := by
  rw [result_eq]
  show Ideal.div (addBlock 3 _ _ _ _ _ (ix2 r q)) (Ideal.ofBits .f32 0x40000000#32) = _
  rw [ofBits_two, addBlock_apply 3 _ _ _ _ _ hh, addBlock_apply 2 _ _ _ _ _ hh, addBlock_apply 1 _ _ _ _ _ hh,
    addBlock_apply 0 _ _ _ _ _ hh]
  have zero : (broadcastInDim S8192x4096 ![] bcast_S_S8192x4096 (constant (F := Ideal) S_ .f32 0x00000000#32)) (ix2 r q) = 0 :=
    Ideal.ofBits_zero_f32
  rw [zero, four_blocks fun b => slotSum _ _ _ b r q]
  exact div_two_sum _ _ _ _

end Cert.ReferenceIdeal.RefValue

end
-- ==== Proof.Slots.lean ====
/- What the precondition says: every slot lies in its block.

   The precondition is an `and` over all the slots of the word "at least zero and less than 1024". Where it holds, each
   slot, read as an unsigned number, is less than 1024. -/
module

public import proofs.«01_k».proof.Defs
public import proofs.«01_k».proof.Proof.Gen.Pre_slots
public import Idealize.ShloMosaic.Lib.ReduceAll
public import Idealize.ShloMosaic.Lib.WordCmp

@[expose] public section

noncomputable section

namespace Cert.Slots

open Idealize.ShloMosaic Cert.Pre_slots Cert.Pre_slots.Gen

/-- Nonnegative and less than 1024, as signed words, is less than 1024 as an unsigned number. -/
theorem lt_of_words (w : BitVec 32) (e : IntOp.andi (IntOp.cmpi .sge w 0#32) (IntOp.cmpi .slt w 1024#32) = 1#1) : w.toNat < 1024 := by
  have e' : IntOp.andi (IntOp.cmpi .sge w 0#32) (IntOp.cmpi .slt w (BitVec.ofNat 32 1024)) = BitVec.ofBool (decide (w.toNat < 1024)) :=
    WordCmp.andi_sge_zero_slt_ofNat (by decide) w
  have e'' : BitVec.ofBool (decide (w.toNat < 1024)) = 1#1 := e'.symm.trans e
  exact of_decide_eq_true ((WordCmp.ofBool_eq_one_iff _).mp e'')

/-- Where the precondition holds, every slot is less than 1024. -/
theorem slots_lt (x : FVec Ideal S8192x2048 .f32) (h : IVec S4x2048 32) (s : FVec Ideal S4x2048 .f32)
    (e : Cert.Pre_slots.fn (F := Ideal) x h s = fun _ => 1#1) (i : S4x2048.Idx) : (h i).toNat < 1024 := by
  haveI : Subsingleton S_.Idx := ⟨fun a b => funext fun k => k.elim0⟩
  exact lt_of_words (h i) (Host.reduce_andi_all _ _ _ _ ((fun k => k.elim0 : S_.Idx)) (congrFun e _) i)

end Cert.Slots

end
-- ==== Proof.lean ====
/- The proof of the claim, put together.

   The kernel and the reference both run and leave their arguments alone, by the generated runs. For the values, the
   kernel's result array and the reference's are the same entry of the sketch (Proof/KernelValue.lean and
   Proof/RefValue.lean), the reference's where every slot lies in its block (Proof/Slots.lean). -/
module

public import proofs.«01_k».proof.Defs
public import proofs.«01_k».proof.Proof.Gen.Kernel.Frame
public import proofs.«01_k».proof.Proof.Gen.KernelIdeal.Value
public import proofs.«01_k».proof.Proof.Gen.Pre_slots
public import proofs.«01_k».proof.Proof.Gen.ReferenceIdeal.Run
public import proofs.«01_k».proof.Proof.KernelValue
public import proofs.«01_k».proof.Proof.RefValue
public import proofs.«01_k».proof.Proof.Slots
public import Idealize.ShloMosaic.Adequacy
public import Idealize.ShloMosaic.Init
public import Idealize.ShloMosaic.Lib.Quiescent

@[expose] public section

noncomputable section

namespace Cert.Proof

open Idealize.ShloMosaic Idealize.ShloMosaic.ValueIdx Idealize.SL.Sem

/-- The reference runs from any memory, leaves its arguments alone and has no counter to leave. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- So it does from the memories of the precondition. -/
theorem quiescent_ReferenceIdeal_pre_slots : quiescent_ReferenceIdeal_pre_slots := fun m ρ _ =>
  quiescent_ReferenceIdeal m ρ trivial

/-- THE EQUATION: on arguments that agree and slots inside their blocks, the kernel's result is the reference's. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Pre_KernelIdeal_slots m) (c : Dev Cert.KernelIdeal.nD)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2)) :
    (Cert.ReferenceIdeal.Value.res_main_v66 (F := Ideal) m' c : Cert.KernelIdeal.S8192x4096.Idx → EReal)
      = Cert.KernelIdeal.Value.G3 (F := Ideal) m c := by
  have slots : ∀ i : Cert.ReferenceIdeal.S4x2048.Idx, BitVec.toNat
      (m' ((c.tc : Thread Cert.ReferenceIdeal.nD Cert.ReferenceIdeal.τ).loc Cert.ReferenceIdeal.main_arg1) i) < 1024 := by
    intro i
    rw [h1]
    exact Cert.Slots.slots_lt _ _ _ (hpre c) i
  funext i
  obtain ⟨r, q, rfl⟩ : ∃ (r : Fin 8192) (q : Fin 4096), i = ix2 r q := ⟨i 0, i 1, eq_ix2 i⟩
  refine (Cert.ReferenceIdeal.RefValue.result_apply m' c slots r q).trans (Eq.trans ?_ (Cert.KernelIdeal.KernelValue.result_apply m c r q).symm)
  exact congrFun (congrFun (congr (congr (congrArg Cert.Sketch.entry h0) h1) h2) r) q

/-- The value claim: the two runs, their results equal by the equation. -/
theorem algebraic_KernelIdeal_ReferenceIdeal_pre_slots : algebraic_KernelIdeal_ReferenceIdeal_pre_slots := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  obtain ⟨h0, h1, h2⟩ := hagree c
  exact (h c).1.trans (results_eq m m' hpre c h0 h1 h2)

theorem claim : Cert.Claim :=
  ⟨Cert.Kernel.Gen.facts, Cert.KernelIdeal.Gen.facts, Cert.ReferenceIdeal.Gen.facts, Cert.Pre_slots.Gen.facts,
    fun m ρ _ => Cert.Kernel.Gen.frame m ρ, fun m ρ _ => Cert.KernelIdeal.Gen.frame m ρ,
    fun m ρ _ => Cert.KernelIdeal.Gen.frame m ρ, quiescent_ReferenceIdeal, quiescent_ReferenceIdeal_pre_slots,
    (trivial : preserves_Kernel_KernelIdeal), algebraic_KernelIdeal_ReferenceIdeal_pre_slots⟩

end Cert.Proof

end
